-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4096 : Shape := ⟨1, ![4096]⟩
abbrev S4096x2048 : Shape := ⟨2, ![4096, 2048]⟩
abbrev S2048 : Shape := ⟨1, ![2048]⟩
abbrev S4096x1 : Shape := ⟨2, ![4096, 1]⟩
abbrev S1 : Shape := ⟨1, ![1]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_
  bcast_S_S4096x1 : S_.BroadcastsInDim S4096x1 (![] : Fin 0 → Fin S4096x1.rank)
  reducesTo_S4096x1_S_d0_1 : S4096x1.ReducesTo [0, 1] S_

variable [Facts]

def fn_part1 {F : FTy → Type} [FloatOps F] (main_arg4 : FVec F S4096x1 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S4096x1 .f32 := Host.absf main_arg4
  let main_cst_6 : FVec F S_ .f32 := constant S_ .f32 0x7F800000#32
  let main_v20 : FVec F S4096x1 .f32 := broadcastInDim S4096x1 ![] bcast_S_S4096x1 main_cst_6
  let main_v21 : IVec S4096x1 1 := cmpf .olt main_v19 main_v20
  let main_c_7 : IVec S_ 1 := constantI S_ 1 1#1
  let main_v22 : IVec S_ 1 := (fun x v => Host.reduce IntOp.andi x v reducesTo_S4096x1_S_d0_1 h_S_) main_v21 main_c_7
  let main_v23 : IVec S_ 1 := andi main_v18 main_v22
  main_v23

def fn {F : FTy → Type} [FloatOps F] (main_arg0 : FVec F S4096 .f32) (main_arg1 : FVec F S4096 .f32) (main_arg2 : FVec F S4096x2048 .f32) (main_arg3 : FVec F S2048 .f32) (main_arg4 : FVec F S4096x1 .f32) (main_arg5 : FVec F S1 .f32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Kernel.lean ====
abbrev S4096 : Shape := ⟨1, ![4096]⟩
abbrev S4096x2048 : Shape := ⟨2, ![4096, 2048]⟩
abbrev S2048 : Shape := ⟨1, ![2048]⟩
abbrev S4096x1 : Shape := ⟨2, ![4096, 1]⟩
abbrev S1 : Shape := ⟨1, ![1]⟩
abbrev S1x4096 : Shape := ⟨2, ![1, 4096]⟩
abbrev S2x4096 : Shape := ⟨2, ![2, 4096]⟩
abbrev S2x2048 : Shape := ⟨2, ![2, 2048]⟩
abbrev S1x2048 : Shape := ⟨2, ![1, 2048]⟩
abbrev S1x1 : Shape := ⟨2, ![1, 1]⟩
abbrev S2x256 : Shape := ⟨2, ![2, 256]⟩
abbrev S256x2048 : Shape := ⟨2, ![256, 2048]⟩
abbrev S1x2x2048 : Shape := ⟨3, ![1, 2, 2048]⟩
abbrev S1x1x1 : Shape := ⟨3, ![1, 1, 1]⟩
abbrev S1x1x2048 : Shape := ⟨3, ![1, 1, 2048]⟩
abbrev S_ : Shape := ⟨0, ![]⟩

abbrev nBuf : Space → Nat
  | .hbm => 14
  | .vmem => 6
  | .smem => 2
  | _ => 0

abbrev bufTy : (tb : Table) → Fin (tcTables nBuf tb) → BufTy
  | .hbm, ⟨0, _⟩ => ⟨S4096, .f32⟩
  | .hbm, ⟨1, _⟩ => ⟨S4096, .f32⟩
  | .hbm, ⟨2, _⟩ => ⟨S4096x2048, .f32⟩
  | .hbm, ⟨3, _⟩ => ⟨S2048, .f32⟩
  | .hbm, ⟨4, _⟩ => ⟨S4096x1, .f32⟩
  | .hbm, ⟨5, _⟩ => ⟨S1, .f32⟩
  | .hbm, ⟨6, _⟩ => ⟨S1x4096, .f32⟩
  | .hbm, ⟨7, _⟩ => ⟨S1x4096, .f32⟩
  | .hbm, ⟨8, _⟩ => ⟨S2x4096, .f32⟩
  | .hbm, ⟨9, _⟩ => ⟨S2x2048, .f32⟩
  | .hbm, ⟨10, _⟩ => ⟨S1x2048, .f32⟩
  | .hbm, ⟨11, _⟩ => ⟨S1x1, .f32⟩
  | .hbm, ⟨12, _⟩ => ⟨S1x1, .f32⟩
  | .hbm, ⟨13, _⟩ => ⟨S_, .f32⟩
  | .local _ .vmem, ⟨0, _⟩ => ⟨S2x256, .f32⟩
  | .local _ .vmem, ⟨1, _⟩ => ⟨S2x256, .f32⟩
  | .local _ .vmem, ⟨2, _⟩ => ⟨S256x2048, .f32⟩
  | .local _ .vmem, ⟨3, _⟩ => ⟨S256x2048, .f32⟩
  | .local _ .vmem, ⟨4, _⟩ => ⟨S2x2048, .f32⟩
  | .local _ .vmem, ⟨5, _⟩ => ⟨S1x2048, .f32⟩
  | .local _ .smem, ⟨0, _⟩ => ⟨S1x1, .f32⟩
  | .local _ .smem, ⟨1, _⟩ => ⟨S1x1, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4096 : Shape := ⟨1, ![4096]⟩
abbrev S4096x2048 : Shape := ⟨2, ![4096, 2048]⟩
abbrev S2048 : Shape := ⟨1, ![2048]⟩
abbrev S4096x1 : Shape := ⟨2, ![4096, 1]⟩
abbrev S1 : Shape := ⟨1, ![1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096, .f32⟩
  | .hbm, ⟨1, _⟩ => ⟨S4096, .f32⟩
  | .hbm, ⟨2, _⟩ => ⟨S4096x2048, .f32⟩
  | .hbm, ⟨3, _⟩ => ⟨S2048, .f32⟩
  | .hbm, ⟨4, _⟩ => ⟨S4096x1, .f32⟩
  | .hbm, ⟨5, _⟩ => ⟨S1, .f32⟩
  | .hbm, ⟨6, _⟩ => ⟨S2048, .f32⟩
  | .hbm, ⟨7, _⟩ => ⟨S2048, .f32⟩
  | .hbm, ⟨8, _⟩ => ⟨S2048, .f32⟩
  | .hbm, ⟨9, _⟩ => ⟨S2048, .f32⟩
  | .hbm, ⟨10, _⟩ => ⟨S4096, .f32⟩
  | .hbm, ⟨11, _⟩ => ⟨S1, .f32⟩
  | .hbm, ⟨12, _⟩ => ⟨S1, .f32⟩
  | .hbm, ⟨13, _⟩ => ⟨S_, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Body.lean ====
/-
  What one run of the kernel's body leaves in the score's one-word buffer.

  `part` is the number a tile contributes and `start` the number the first point starts from, each as a sum over the
  entries of the blocks the body reads. `out_first` and `out_later` say what the two cases leave: the first point
  `start + part`, a later one what it found plus `part`.
-/
module

public import proofs.«01_k».proof.Proof.Gen.KernelIdeal.Frame
public import Idealize.ShloMosaic.Lib.Pipeline.Value
public import Idealize.ShloMosaic.Lib.MatmulPlain
public import Idealize.ShloMosaic.Lib.ValueIdx
public import Idealize.ShloMosaic.Lib.Tactic

@[expose] public section

noncomputable section

namespace Cert.KernelIdeal.Body

open Idealize.ShloMosaic Idealize.ShloMosaic.TcCoe Idealize.SL.Sem Idealize.ShloMosaic.ValueIdx Cert.KernelIdeal Cert.KernelIdeal.Gen

/-- Two zero offsets, written out or as a constant function. -/
theorem zeros : (![0, 0] : Fin 2 → Nat) = fun _ => 0 := funext fun a => by fin_cases a <;> rfl

/-! ## The two payloads as sums -/

/-- Reshaping an array does not change the sum of its entries. -/
theorem sum_reshaped {s t : Shape} (x : s.Idx → EReal) (h : s.ShapeCasts t) : ∑ i, shapeCast t x h i = ∑ i, x i :=
  Equiv.sum_comp (Shape.reshapeEquiv h) x

/-- A one-entry array has one entry on its axis. -/
theorem one_entry : ∀ b, S1.size b = 1 := by decide

/-- What a tile contributes: its two rows times its 256 rows of the embedding, weighed by the scorer, added up. -/
def part (x0 : Vec Ideal S2x256 .f32) (x1 : Vec Ideal S256x2048 .f32) (x2 : Vec Ideal S2x2048 .f32) : EReal :=
  ∑ r : Fin 2, ∑ h : Fin 2048, (∑ k : Fin 256, x0 (ix2 r k) * x1 (ix2 k h)) * x2 (ix2 r h)

/-- What the first point starts from: the scorer's bias and the embedding's bias under the scorer's two rows. -/
def start (x2 : Vec Ideal S2x2048 .f32) (x3 : Vec Ideal S1x2048 .f32) (x4 : Vec Ideal S1x1 .f32) : EReal :=
  x4 (ix2 0 0) + ∑ h : Fin 2048, x3 (ix2 0 h) * (x2 (ix2 0 h) + x2 (ix2 1 h))

/-- The word every point stores is the word it read plus its tile's contribution. -/
theorem pay2_eq (x0 : Vec Ideal S2x256 .f32) (x1 : Vec Ideal S256x2048 .f32) (x2 : Vec Ideal S2x2048 .f32) (v : EReal) :
    k0_pay2 (F := Ideal) x0 x1 x2 v = v + part x0 x1 x2 := by
  unfold k0_pay2 part
  dsimp only
  refine congrArg (v + ·) ?_
  rw [shapeCast_self, shapeCast_self]
  refine (Ideal.multiReduction_add_total _ 0x00000000#32 _ one_entry (.inl rfl) rfl _).trans ?_
  rw [sum_reshaped, sum_idx2]
  refine Finset.sum_congr rfl fun r _ => Finset.sum_congr rfl fun h _ => congrArg (· * x2 (ix2 r h)) ?_
  refine (Ideal.matmul_plain_apply (M := 2) (K := 256) (N := 2048) none x0 x1 _ r h).trans ?_
  rw [show constant (F := Ideal) S2x2048 .f32 0x00000000#32 (ix2 r h) = 0 from Ideal.ofBits_zero_f32, zero_add]

/-- The word the first point stores before that is `start`, when it read the scorer's two rows one at a time. -/
theorem pay1_eq (x2 : Vec Ideal S2x2048 .f32) (x3 : Vec Ideal S1x2048 .f32) (x4 : Vec Ideal S1x1 .f32)
    (y0 y1 : Vec Ideal S1x2048 .f32) (h0 : ∀ h, y0 (ix2 0 h) = x2 (ix2 0 h)) (h1 : ∀ h, y1 (ix2 0 h) = x2 (ix2 1 h)) :
    k0_pay1 (F := Ideal) (x4 (ix2 0 0)) x3 y0 y1 = start x2 x3 x4 := by
  unfold k0_pay1 start
  dsimp only
  refine congrArg (x4 (ix2 0 0) + ·) ?_
  rw [shapeCast_self, shapeCast_self, shapeCast_self]
  refine (Ideal.multiReduction_add_total _ 0x00000000#32 _ one_entry (.inl rfl) rfl _).trans ?_
  rw [sum_reshaped, sum_idx2, Fin.sum_univ_one]
  exact Finset.sum_congr rfl fun h _ => congrArg (x3 (ix2 0 h) * ·) (congrArg₂ (· + ·) (h0 h) (h1 h))

/-! ## What the two cases leave -/

/-- The first entry of a one-entry block is its entry at (0, 0). -/
theorem ld_word (x : Vec Ideal S1x1 .f32) (hp : 0 < S1x1.numel) :
    View.ld x (Rect.unit ![0, 0] ![1, 1] inb_S1x1_S1x1_0_0) (Shape.Idx.first hp) = x (ix2 0 0) :=
  congrArg x (Shape.idx_ext₂ (Nat.lt_one_iff.mp (Fin.isLt _)) (Nat.lt_one_iff.mp (Fin.isLt _)))

section

variable (c : Dev nD) (i : grid0.Coords) (a1 : Memref sig .tc .vmem S2x256 .f32) (h1 : a1.IsWhole)
  (a2 : Memref sig .tc .vmem S256x2048 .f32) (h2 : a2.IsWhole) (a3 : Memref sig .tc .vmem S2x2048 .f32) (h3 : a3.IsWhole)
  (a4 : Memref sig .tc .vmem S1x2048 .f32) (h4 : a4.IsWhole) (a5 : Memref sig .tc .smem S1x1 .f32) (h5 : a5.IsWhole)
  (a6 : Memref sig .tc .smem S1x1 .f32) (h6 : a6.IsWhole) (x0 : Vec Ideal S2x256 .f32)
  (x1 : Vec Ideal S256x2048 .f32) (x2 : Vec Ideal S2x2048 .f32) (x3 : Vec Ideal S1x2048 .f32) (x4 : Vec Ideal S1x1 .f32)

/-- A point after the first leaves what it found plus its tile's contribution. -/
theorem out_later (hc : ¬cond0_0 i) (xo : Vec Ideal S1x1 .f32) :
    out0_B_5 c i a1 h1 a2 h2 a3 h3 a4 h4 a5 h5 a6 h6 hc x0 x1 x2 x3 x4 xo = fun _ => xo (ix2 0 0) + part x0 x1 x2 := by
  unfold out0_B_5
  rw [View.read_writes_eq_canon _ _ _ (cover0_B_5 c i a1 h1 a2 h2 a3 h3 a4 h4 a5 h5 a6 h6 hc x0 x1 x2 x3 x4 xo)]
  unfold kernelRun0_B
  dsimp only
  rw [View.canon_unit_zero zeros]
  sl_unfold_words
  simp only [View.readAt_eq_ld, h1.read_unread, h2.read_unread, h3.read_unread, h6.read_unread,
    View.ld_unit_zero (S := S2x256) zeros, View.ld_unit_zero (S := S256x2048) zeros, View.ld_unit_zero (S := S2x2048) zeros]
  funext _
  refine (pay2_eq x0 x1 x2 _).trans ?_
  rw [ld_word]

/-- The first point leaves its start plus its tile's contribution, whatever it found. -/
theorem out_first (hc : cond0_0 i) :
    out0_A_5 c i a1 h1 a2 h2 a3 h3 a4 h4 a5 h5 a6 h6 hc x0 x1 x2 x3 x4 = fun _ => start x2 x3 x4 + part x0 x1 x2 := by
  unfold out0_A_5
  rw [View.read_writes_eq_canon _ _ _ (cover0_A_5 c i a1 h1 a2 h2 a3 h3 a4 h4 a5 h5 a6 h6 hc x0 x1 x2 x3 x4)]
  unfold kernelRun0_A
  dsimp only
  sl_unfold_words
  rw [View.canon_cons_unit_zero zeros]
  simp only [View.readAt_eq_ld, h1.read_unread, h2.read_unread, h3.read_unread, h4.read_unread, h5.read_unread,
    View.ld_unit_zero (S := S2x256) zeros, View.ld_unit_zero (S := S256x2048) zeros, View.ld_unit_zero (S := S2x2048) zeros,
    View.ld_unit_zero (S := S1x2048) zeros]
  funext _
  refine (pay2_eq x0 x1 x2 _).trans (congrArg (· + part x0 x1 x2) ?_)
  rw [ld_word]
  refine pay1_eq x2 x3 x4 _ _ (fun h => congrArg x2 (Shape.idx_ext₂ rfl ?_)) (fun h => congrArg x2 (Shape.idx_ext₂ rfl ?_))
  all_goals show 0 + 1 * h.val = h.val; omega

end

end Cert.KernelIdeal.Body

end
-- ==== Proof.Score.lean ====
/-
  The score as plain arithmetic, with no program in sight.

  Two vectors of 4096 entries are embedded into 2048 numbers each and the two embeddings are scored by one weight per
  entry. `tiled` adds the products up tile by tile, the biases first, the way the kernel does; `plain` embeds each vector
  whole, adds the embedding's bias, multiplies by the scorer's weights and adds the scorer's bias last. `tiled_eq_plain`
  says the two agree as extended reals when everything but the scorer's bias is a real number.
-/
module

public import Idealize.ShloMosaic.PureOps.Ideal.Laws

@[expose] public section

noncomputable section

namespace EmbedScore

open Finset

/-- The position in a vector of entry `k` of tile `t`: sixteen tiles of 256 consecutive entries. -/
def lane (t : Fin 16) (k : Fin 256) : Fin 4096 := ⟨256 * t.val + k.val, by omega⟩

/-- Tiles and entries within them, taken together, name every position once. -/
theorem sum_lane {M : Type*} [AddCommMonoid M] (f : Fin 4096 → M) : ∑ t, ∑ k, f (lane t k) = ∑ j, f j := by
  rw [← Fintype.sum_prod_type']
  refine Fintype.sum_equiv (finProdFinEquiv (m := 16) (n := 256)) _ _ fun p => congrArg f (Fin.ext ?_)
  show 256 * p.1.val + p.2.val = p.2.val + 256 * p.1.val
  omega

section Scores

variable (x : Fin 2 → Fin 4096 → EReal) (w : Fin 4096 → Fin 2048 → EReal) (e : Fin 2048 → EReal)
  (s : Fin 2 → Fin 2048 → EReal) (β : EReal)

/-- What tile `t` adds to the score: both vectors' partial embeddings over the tile, weighed by the scorer. -/
def tile (t : Fin 16) : EReal := ∑ r, ∑ h, (∑ k, x r (lane t k) * w (lane t k) h) * s r h

/-- What the biases add to the score: the scorer's own, and the embedding's as both vectors' weights see it. -/
def biases : EReal := β + ∑ h, e h * (s 0 h + s 1 h)

/-- The score added up tile by tile, starting from the biases. -/
def tiled : EReal := biases e s β + ∑ t, tile x w s t

/-- What vector `r` adds to the score: its whole embedding, bias included, weighed by the scorer. -/
def vector (r : Fin 2) : EReal := ∑ h, (∑ k, x r k * w k h + e h) * s r h

/-- The score vector by vector, the scorer's bias last. -/
def plain : EReal := vector x w e s 0 + vector x w e s 1 + β

end Scores

/-- A finite sum of real numbers is the same sum when each is taken as an extended real. -/
theorem coe_sum {ι : Type*} (u : Finset ι) (f : ι → ℝ) : ((∑ i ∈ u, f i : ℝ) : EReal) = ∑ i ∈ u, (f i : EReal) := by
  classical
  induction u using Finset.induction_on with
  | empty => simp
  | insert i u hi ih => rw [sum_insert hi, sum_insert hi, EReal.coe_add, ih]

/-- The equation over the real numbers, the scorer's bias left out: multiply out, and gather the tiles. -/
theorem real_score (x : Fin 2 → Fin 4096 → ℝ) (w : Fin 4096 → Fin 2048 → ℝ) (e : Fin 2048 → ℝ) (s : Fin 2 → Fin 2048 → ℝ) :
    ∑ h, e h * (s 0 h + s 1 h) + ∑ t, ∑ r, ∑ h, (∑ k, x r (lane t k) * w (lane t k) h) * s r h
      = ∑ h, (∑ k, x 0 k * w k h + e h) * s 0 h + ∑ h, (∑ k, x 1 k * w k h + e h) * s 1 h := by
  have gather (r : Fin 2) : ∑ t, ∑ h, (∑ k, x r (lane t k) * w (lane t k) h) * s r h
      = ∑ h, (∑ k, x r k * w k h) * s r h := by
    rw [sum_comm]
    exact sum_congr rfl fun h _ => by rw [← sum_mul, sum_lane fun j => x r j * w j h]
  have both : ∑ t, ∑ r, ∑ h, (∑ k, x r (lane t k) * w (lane t k) h) * s r h
      = ∑ h, (∑ k, x 0 k * w k h) * s 0 h + ∑ h, (∑ k, x 1 k * w k h) * s 1 h := by
    rw [sum_comm, Fin.sum_univ_two, gather, gather]
  rw [both]
  simp only [add_mul, mul_add, sum_add_distrib]
  ring

/-- THE EQUATION: with the vectors, the embedding and the scorer's weights real, whatever the scorer's bias, adding up
    tile by tile gives the plain score. -/
theorem tiled_eq_plain (x : Fin 2 → Fin 4096 → EReal) (w : Fin 4096 → Fin 2048 → EReal) (e : Fin 2048 → EReal)
    (s : Fin 2 → Fin 2048 → EReal) (β : EReal) (hx : ∀ r k, ∃ q : ℝ, x r k = q) (hw : ∀ k h, ∃ q : ℝ, w k h = q)
    (he : ∀ h, ∃ q : ℝ, e h = q) (hs : ∀ r h, ∃ q : ℝ, s r h = q) : tiled x w e s β = plain x w e s β := by
  choose x' hx using hx
  choose w' hw using hw
  choose e' he using he
  choose s' hs using hs
  have h := congrArg (fun q : ℝ => (q : EReal)) (real_score x' w' e' s')
  simp only [EReal.coe_add, EReal.coe_mul, coe_sum, ← hx, ← hw, ← he, ← hs] at h
  unfold tiled plain biases tile vector
  rw [← h, add_assoc, add_comm]

end EmbedScore

end

end
-- ==== Proof.Entries.lean ====
/-
  The six arguments as the functions the score is written in: the two vectors, the embedding's matrix and bias, the
  scorer's weights (one column of 4096, its upper half for the first vector and its lower half for the second) and bias.
-/
module

public import proofs.«01_k».proof.Proof.Score
public import Idealize.ShloMosaic.Lib.ValueIdx

@[expose] public section

noncomputable section

namespace EmbedScore

open Idealize.ShloMosaic Idealize.ShloMosaic.ValueIdx

/-- The two vectors' entries. -/
def vectors (a b : FVec Ideal ⟨1, ![4096]⟩ .f32) : Fin 2 → Fin 4096 → EReal := ![fun k => a (ix1 k), fun k => b (ix1 k)]
/-- The embedding's matrix. -/
def matrix (w : FVec Ideal ⟨2, ![4096, 2048]⟩ .f32) : Fin 4096 → Fin 2048 → EReal := fun k h => w (ix2 k h)
/-- The embedding's bias. -/
def bias (e : FVec Ideal ⟨1, ![2048]⟩ .f32) : Fin 2048 → EReal := fun h => e (ix1 h)
/-- Entry `h` of half `r` of the scorer's column. -/
def half (r : Fin 2) (h : Fin 2048) : Fin 4096 := ⟨2048 * r.val + h.val, by omega⟩
/-- The scorer's weights for vector `r`. -/
def weights (s : FVec Ideal ⟨2, ![4096, 1]⟩ .f32) : Fin 2 → Fin 2048 → EReal := fun r h => s (ix2 (half r h) 0)
/-- The scorer's bias. -/
def offset (β : FVec Ideal ⟨1, ![1]⟩ .f32) : EReal := β (ix1 0)

/-- A sum over the scorer's column is the sum over its upper half plus the sum over its lower half. -/
theorem sum_halves {M : Type*} [AddCommMonoid M] (f : Fin 4096 → M) : ∑ j, f j = ∑ h, f (half 0 h) + ∑ h, f (half 1 h) := by
  rw [← Fin.sum_univ_two (fun r => ∑ h, f (half r h)), ← Fintype.sum_prod_type']
  refine (Fintype.sum_equiv (finProdFinEquiv (m := 2) (n := 2048)) _ _ fun p => congrArg f (Fin.ext ?_)).symm
  show 2048 * p.1.val + p.2.val = p.2.val + 2048 * p.1.val
  omega

end EmbedScore

end

end
-- ==== Proof.Blocks.lean ====
/-
  What the kernel's five input windows show at each point, entry by entry, in terms of @main's arguments: the vectors
  stacked and cut into tiles of 256 columns, the embedding's matrix cut into tiles of 256 rows, and the scorer's weights
  and the two biases whole.
-/
module

public import proofs.«01_k».proof.Proof.Gen.KernelIdeal.Frame
public import proofs.«01_k».proof.Proof.Entries
public import Idealize.ShloMosaic.Lib.Pipeline.Value
public import Idealize.ShloMosaic.Lib.StableHlo.Run
public import Idealize.ShloMosaic.Lib.Tactic

@[expose] public section

noncomputable section

namespace Cert.KernelIdeal.Blocks

open Idealize.ShloMosaic Idealize.ShloMosaic.TcCoe Idealize.SL.Sem Idealize.ShloMosaic.ValueIdx Cert.KernelIdeal
  Cert.KernelIdeal.Gen EmbedScore

variable (m : (ℓ : Loc nD τ sig) → Buf (Elt Ideal) ℓ) (c : Dev nD)

/-! ## What the host hands to the kernel -/

/-- The two vectors stacked, one a row. -/
theorem stacked : V m c main_v2 = concatenate S2x4096 0
    [⟨S1x4096, broadcastInDim S1x4096 ![1] bcast_S4096_S1x4096_1 (m ((c : Thread nD τ).loc main_arg0))⟩,
      ⟨S1x4096, broadcastInDim S1x4096 ![1] bcast_S4096_S1x4096_1 (m ((c : Thread nD τ).loc main_arg1))⟩]
    concatenates_S1x4096_S1x4096_S2x4096_d0 := by
  show StableHlo.after hostOps0 _ _ = _
  after_results <;> rfl

/-- The scorer's column as two rows. -/
theorem scorer : V m c main_v3 = shapeCast S2x2048 (m ((c : Thread nD τ).loc main_arg4)) shapeCasts_S4096x1_S2x2048 := by
  show StableHlo.after hostOps0 _ _ = _
  after_results <;> rfl

/-- The embedding's bias as a row. -/
theorem embed_bias : V m c main_v4 = shapeCast S1x2048 (m ((c : Thread nD τ).loc main_arg3)) shapeCasts_S2048_S1x2048 := by
  show StableHlo.after hostOps0 _ _ = _
  after_results <;> rfl

/-- The scorer's bias as a one-entry block. -/
theorem scorer_bias : V m c main_v5 = shapeCast S1x1 (m ((c : Thread nD τ).loc main_arg5)) shapeCasts_S1_S1x1 := by
  show StableHlo.after hostOps0 _ _ = _
  after_results <;> rfl

/-- Row `r` of the stack is vector `r`. -/
theorem stacked_apply (r : Fin 2) (k : Fin 4096) :
    V m c main_v2 (ix2 r k) = vectors (m ((c : Thread nD τ).loc main_arg0)) (m ((c : Thread nD τ).loc main_arg1)) r k := by
  have row (x : FVec Ideal S4096 .f32) : broadcastInDim S1x4096 ![1] bcast_S4096_S1x4096_1 x (ix2 0 k) = x (ix1 k) :=
    broadcastInDim_apply _ _ _ _ (ix1 k) fun a => by fin_cases a; rfl
  rw [stacked]
  match r with
  | ⟨0, _⟩ =>
    exact (concatenate_pair_apply_left (s₁ := S1x4096) (s₂ := S1x4096) (t := S2x4096) 0 _ _ _ _ rfl (ix2 0 k)
      fun b => by fin_cases b <;> rfl).trans (row _)
  | ⟨1, _⟩ =>
    exact (concatenate_pair_apply_right (s₁ := S1x4096) (s₂ := S1x4096) (t := S2x4096) 0 _ _ _ _ rfl rfl (ix2 0 k)
      (fun b hb => by fin_cases b <;> [exact absurd rfl hb; rfl]) rfl).trans (row _)

/-- Row `r` of the reshaped scorer is half `r` of its column. -/
theorem scorer_apply (r : Fin 2) (h : Fin 2048) :
    V m c main_v3 (ix2 r h) = weights (m ((c : Thread nD τ).loc main_arg4)) r h := by
  rw [scorer]
  refine shapeCast_apply _ _ _ (ix2 (half r h) 0) ?_
  rw [Shape.rowMajor_val_two, Shape.rowMajor_val_two]
  show (2048 * r.val + h.val) * 1 + 0 = r.val * 2048 + h.val
  omega

/-- The row of the embedding's bias is the bias. -/
theorem embed_bias_apply (h : Fin 2048) :
    V m c main_v4 (ix2 0 h) = bias (m ((c : Thread nD τ).loc main_arg3)) h := by
  rw [embed_bias]
  refine shapeCast_apply _ _ _ (ix1 h) ?_
  rw [Shape.rowMajor_val_two, Shape.rowMajor_val_one]
  show h.val = 0 * 2048 + h.val
  omega

/-- The block of the scorer's bias holds the bias. -/
theorem scorer_bias_apply : V m c main_v5 (ix2 0 0) = offset (m ((c : Thread nD τ).loc main_arg5)) := by
  rw [scorer_bias]
  refine shapeCast_apply _ _ _ (ix1 0) ?_
  rw [Shape.rowMajor_val_two, Shape.rowMajor_val_one]
  rfl

/-! ## What the windows show -/

/-- A grid point as the number of its tile. -/
abbrev tileOf (t : Fin cfg0.N) : Fin 16 := t.cast (show cfg0.N = 16 from N_0)

/-- Where the windows sit at point `t`: the vectors' at column tile `t`, the matrix's at row tile `t`, the others at the
    beginning of their arrays. -/
theorem where_at (t : Fin cfg0.N) : (win0_0.index t 0 = 0 ∧ win0_0.index t 1 = t.val)
    ∧ (win0_1.index t 0 = t.val ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0) := by
  rcases fin_N0 t with h | h | h | h | h | h | h | h | h | h | h | h | h | h | h | h <;> subst h <;> decide

/-- Window 0 at point `t`: tile `t` of the two vectors. -/
theorem iblk_vectors (t : Fin cfg0.N) (r : Fin 2) (k : Fin 256) :
    iblk m c 0 t (ix2 r k)
      = vectors (m ((c : Thread nD τ).loc main_arg0)) (m ((c : Thread nD τ).loc main_arg1)) r (lane (tileOf t) k) := by
  rw [← stacked_apply]
  refine congrArg (V m c main_v2) (Shape.idx_ext₂ ?_ ?_)
  · show win0_0.index t 0 * 2 + 1 * r.val = r.val
    rw [(where_at t).1.1]; omega
  · show win0_0.index t 1 * 256 + 1 * k.val = 256 * t.val + k.val
    rw [(where_at t).1.2]; omega

/-- Window 1 at point `t`: tile `t` of the embedding's matrix. -/
theorem iblk_matrix (t : Fin cfg0.N) (k : Fin 256) (h : Fin 2048) :
    iblk m c 1 t (ix2 k h) = matrix (m ((c : Thread nD τ).loc main_arg2)) (lane (tileOf t) k) h := by
  unfold matrix
  rw [← V_main_arg2 m c]
  refine congrArg (V m c main_arg2) (Shape.idx_ext₂ ?_ ?_)
  · show win0_1.index t 0 * 256 + 1 * k.val = 256 * t.val + k.val
    rw [(where_at t).2.1.1]; omega
  · show win0_1.index t 1 * 2048 + 1 * h.val = h.val
    rw [(where_at t).2.1.2]; omega

/-- Window 2 at every point: the scorer's weights. -/
theorem iblk_weights (t : Fin cfg0.N) (r : Fin 2) (h : Fin 2048) :
    iblk m c 2 t (ix2 r h) = weights (m ((c : Thread nD τ).loc main_arg4)) r h := by
  rw [← scorer_apply]
  refine congrArg (V m c main_v3) (Shape.idx_ext₂ ?_ ?_)
  · show win0_2.index t 0 * 2 + 1 * r.val = r.val
    rw [(where_at t).2.2.1.1]; omega
  · show win0_2.index t 1 * 2048 + 1 * h.val = h.val
    rw [(where_at t).2.2.1.2]; omega

/-- Window 3 at every point: the embedding's bias. -/
theorem iblk_bias (t : Fin cfg0.N) (h : Fin 2048) :
    iblk m c 3 t (ix2 0 h) = bias (m ((c : Thread nD τ).loc main_arg3)) h := by
  rw [← embed_bias_apply]
  refine congrArg (V m c main_v4) (Shape.idx_ext₂ ?_ ?_)
  · show win0_3.index t 0 * 1 + 1 * 0 = 0
    rw [(where_at t).2.2.2.1.1]
  · show win0_3.index t 1 * 2048 + 1 * h.val = h.val
    rw [(where_at t).2.2.2.1.2]; omega

/-- Window 4 at every point: the scorer's bias. -/
theorem iblk_offset (t : Fin cfg0.N) : iblk m c 4 t (ix2 0 0) = offset (m ((c : Thread nD τ).loc main_arg5)) := by
  rw [← scorer_bias_apply]
  refine congrArg (V m c main_v5) (Shape.idx_ext₂ ?_ ?_)
  · show win0_4.index t 0 * 1 + 1 * 0 = 0
    rw [(where_at t).2.2.2.2.1]
  · show win0_4.index t 1 * 1 + 1 * 0 = 0
    rw [(where_at t).2.2.2.2.2]

end Cert.KernelIdeal.Blocks

end
-- ==== Proof.Final.lean ====
/-
  What the kernel's result array holds at the end: the score added up tile by tile.

  The grid has sixteen points, one per tile. The first leaves the biases and its own tile in the one-entry result; every
  later one adds its tile to what it finds. The result leaves for the array after the last point.
-/
module

public import proofs.«01_k».proof.Proof.Body
public import proofs.«01_k».proof.Proof.Blocks

@[expose] public section

noncomputable section

namespace Cert.KernelIdeal.Final

open Cert.KernelIdeal Cert.KernelIdeal.Gen Cert.KernelIdeal.Body Cert.KernelIdeal.Blocks EmbedScore
open Idealize.ShloMosaic Idealize.ShloMosaic.TcCoe Idealize.ShloMosaic.ValueIdx Idealize.ShloMosaic.Pipeline Idealize.SL.Sem

variable (m : (ℓ : Loc nD τ sig) → Buf (Elt Ideal) ℓ) (ρ : Dev nD → PrngReg) (c : Dev nD)

/-- The two vectors in memory `m`. -/
abbrev xs : Fin 2 → Fin 4096 → EReal := vectors (m ((c : Thread nD τ).loc main_arg0)) (m ((c : Thread nD τ).loc main_arg1))
/-- The embedding's matrix in memory `m`. -/
abbrev ws : Fin 4096 → Fin 2048 → EReal := matrix (m ((c : Thread nD τ).loc main_arg2))
/-- The embedding's bias in memory `m`. -/
abbrev es : Fin 2048 → EReal := bias (m ((c : Thread nD τ).loc main_arg3))
/-- The scorer's weights in memory `m`. -/
abbrev ss : Fin 2 → Fin 2048 → EReal := weights (m ((c : Thread nD τ).loc main_arg4))
/-- The scorer's bias in memory `m`. -/
abbrev bs : EReal := offset (m ((c : Thread nD τ).loc main_arg5))

/-- What point `t`'s body adds is tile `t`. -/
theorem part_blocks (t : Fin cfg0.N) :
    part (iblk m c 0 t) (iblk m c 1 t) (iblk m c 2 t) = tile (xs m c) (ws m c) (ss m c) (tileOf t) := by
  unfold part tile
  simp only [iblk_vectors, iblk_matrix, iblk_weights]

/-- What the first point starts from is the biases. -/
theorem start_blocks (t : Fin cfg0.N) :
    start (iblk m c 2 t) (iblk m c 3 t) (iblk m c 4 t) = biases (es m c) (ss m c) (bs m c) := by
  unfold start biases
  simp only [iblk_weights, iblk_bias, iblk_offset]

/-- After point `n` the result's buffer holds the biases and the tiles up to `n`. -/
theorem outsAt_eq : ∀ (n : ℕ) (h : n < cfg0.N), outsAt0 m c n h = fun _ => biases (es m c) (ss m c) (bs m c)
      + ∑ i : Fin (n + 1), tile (xs m c) (ws m c) (ss m c) (tileOf ⟨i.val, Nat.lt_of_lt_of_le i.isLt h⟩)
  | 0, h => by
    rw [outsAt0_A m c ⟨0, h⟩ rfl, out_first, start_blocks, part_blocks, Fin.sum_univ_one]
    rfl
  | n + 1, h => by
    have hN : cfg0.N = 16 := N_0
    have hB : ¬(⟨n + 1, h⟩ : Fin cfg0.N).val % 16 = 0 := by dsimp only; omega
    rw [outsAt0_B m c ⟨n + 1, h⟩ hB, out_later, part_blocks, Fin.sum_univ_castSucc, ← add_assoc]
    show (fun _ => outsAt0 m c n _ (ix2 0 0) + _) = _
    rw [outsAt_eq n]
    rfl

/-- The score in memory `m`, added up tile by tile. -/
abbrev score : EReal := tiled (xs m c) (ws m c) (es m c) (ss m c) (bs m c)

/-- After the last point the result's buffer holds the score. -/
theorem outsAt_last (h : 15 < cfg0.N) : outsAt0 m c 15 h = fun _ => score m c := by
  rw [outsAt_eq]
  rfl

/-- The result array's contents. -/
abbrev result : Buf (Elt Ideal) ((c : Thread nD τ).loc main_v6) := fun _ => score m c

/-- The result array ends holding the score. -/
theorem final_array : (dats m 0 c).arrAt 5 cfg0.N = result m c := by
  have at_zero : ∀ a, win0_5.index t0_15 a = 0 := fun a => by fin_cases a <;> decide
  refine (dats m 0 c).arrAt_eq_of_cover 5 (result m c) (fun t ht => ?_) fun i => ⟨t0_15, (flush0_5 t0_15).mpr rfl, ?_⟩
  · have hN : cfg0.N = 16 := N_0
    obtain rfl : t = t0_15 := Fin.ext (by have := (flush0_5 t).mp ht; have := t.isLt; show t.val = 15; omega)
    show (cfg0.win 5).cut (grid0.coords t0_15) ((dats m 0 c).after 5 t0_15) = _
    have held : (dats m 0 c).after 5 t0_15 = result m c := (after0_5 m c t0_15).trans (outsAt_last m c t0_15.isLt)
    rw [held]
    rfl
  · show i ∈ ((View.whole main_v6).slice (win0_5.rect t0_15)).set
    rw [View.set_slice_whole, Rect.mem_set_unit]
    intro a
    have hi : (i a : ℕ) < 1 := by fin_cases a <;> exact (i _).isLt
    have hx : win0_5.xsize (grid0.coords t0_15) a = 1 := by fin_cases a <;> decide +kernel
    show win0_5.index t0_15 a * win0_5.size a ≤ (i a : ℕ)
      ∧ (i a : ℕ) < win0_5.index t0_15 a * win0_5.size a + win0_5.xsize (grid0.coords t0_15) a
    rw [at_zero a, hx]
    omega

/-- The program's result: the array's one entry, the score. -/
theorem final_result :
    Pipeline.afterTail₀ cfgs (dats m) 0 (V0 m) [hostOps1] c main_v7 = (fun _ => score m c : FVec Ideal S_ .f32) := by
  have h6 : (Pipeline.withArrays (cfgs (0 : Fin 1)).spec c (V0 m c) fun w => (dats m 0 c).arrAt w (cfgs (0 : Fin 1)).N)
      (Proc.devRef .tc main_v6) = result m c :=
    (Pipeline.withArrays_arr (cfgs (0 : Fin 1)).spec winFacts0.arr_inj c _ _ 5).trans (final_array m c)
  unfold Pipeline.afterTail₀
  simp only [hostOps1, List.flatten_cons, List.flatten_nil, List.append_nil]
  after_results
  · exact congrArg (fun y => shapeCast S_ y shapeCasts_S1x1_S_) h6

/-- THE KERNEL'S RUN, READ: the result is the score added up tile by tile, and the six arguments end unchanged. -/
theorem run : θ_run defs (onTc (τ := τ) (main (F := Ideal))) ⟨m, fun _ => 0, ρ⟩ fun r => ∀ c : Dev nD,
      r.2.mem ((c.tc : Thread nD τ).loc main_v7) = (fun _ => score m c : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).2 main_v7 (Pipeline.mem_restRefs_of main_v7 (by decide) (by decide))).trans
    (final_result m c), h.2 c⟩) (θ_run_and (run_main m ρ) (unchanged m ρ))

end Cert.KernelIdeal.Final

end

end
-- ==== Proof.Reference.lean ====
/-
  What the reference computes: the plain score, each vector embedded whole.
-/
module

public import proofs.«01_k».proof.Proof.Gen.ReferenceIdeal.Run
public import proofs.«01_k».proof.Proof.Entries
public import Idealize.ShloMosaic.Lib.Pipeline.Value
public import Idealize.ShloMosaic.Lib.IdealHost

@[expose] public section

noncomputable section

namespace Cert.ReferenceIdeal.Plain

open Cert.ReferenceIdeal Cert.ReferenceIdeal.Gen EmbedScore
open Idealize.ShloMosaic Idealize.ShloMosaic.ValueIdx

/-- A vector times the embedding's matrix, at an entry of the product: the sum over the vector's entries. -/
theorem embed_apply (x : FVec Ideal S4096 .f32) (w : FVec Ideal S4096x2048 .f32) (h : Fin 2048) :
    Host.dotGeneral dot_S4096_S4096x2048_S2048_0_0_n_1_n_n none x w (ix1 h) = ∑ k : Fin 4096, x (ix1 k) * w (ix2 k h) := by
  show FloatOps.dotGeneral _ none _ x w (ix1 h) = _
  rw [Ideal.dotGeneral_apply, ← Equiv.sum_comp (contrEquiv1 dot_S4096_S4096x2048_S2048_0_0_n_1_n_n 4096 rfl rfl).symm]
  refine Finset.sum_congr rfl fun k _ => ?_
  have hk := contrEquiv1_symm_val dot_S4096_S4096x2048_S2048_0_0_n_1_n_n 4096 rfl rfl k
  exact congrArg₂ (fun i j => x i * w j) (funext fun a => Fin.ext (by fin_cases a; exact hk)) (Shape.idx_ext₂ hk rfl)

/-- A vector times the scorer's column: the sum over the vector's entries. -/
theorem score_apply (x : FVec Ideal S4096 .f32) (s : FVec Ideal S4096x1 .f32) :
    Host.dotGeneral dot_S4096_S4096x1_S1_0_0_n_1_n_n none x s (ix1 0) = ∑ j : Fin 4096, x (ix1 j) * s (ix2 j 0) := by
  show FloatOps.dotGeneral _ none _ x s (ix1 0) = _
  rw [Ideal.dotGeneral_apply, ← Equiv.sum_comp (contrEquiv1 dot_S4096_S4096x1_S1_0_0_n_1_n_n 4096 rfl rfl).symm]
  refine Finset.sum_congr rfl fun k _ => ?_
  have hk := contrEquiv1_symm_val dot_S4096_S4096x1_S1_0_0_n_1_n_n 4096 rfl rfl k
  exact congrArg₂ (fun i j => x i * s j) (funext fun a => Fin.ext (by fin_cases a; exact hk)) (Shape.idx_ext₂ hk rfl)

/-- The upper half of two embeddings joined is the first. -/
theorem joined_upper (u v : FVec Ideal S2048 .f32) (h : Fin 2048) :
    concatenate S4096 0 [⟨S2048, u⟩, ⟨S2048, v⟩] concatenates_S2048_S2048_S4096_d0 (ix1 (half 0 h)) = u (ix1 h) :=
  concatenate_pair_apply_left (s₁ := S2048) (s₂ := S2048) (t := S4096) 0 u v _ _ rfl (ix1 h) fun b => by
    fin_cases b; show h.val = 2048 * 0 + h.val; omega

/-- The lower half of two embeddings joined is the second. -/
theorem joined_lower (u v : FVec Ideal S2048 .f32) (h : Fin 2048) :
    concatenate S4096 0 [⟨S2048, u⟩, ⟨S2048, v⟩] concatenates_S2048_S2048_S4096_d0 (ix1 (half 1 h)) = v (ix1 h) :=
  concatenate_pair_apply_right (s₁ := S2048) (s₂ := S2048) (t := S4096) 0 u v _ _ rfl rfl (ix1 h)
    (fun b hb => by fin_cases b; exact absurd rfl hb) (by show h.val + 2048 = 2048 * 1 + h.val; omega)

/-- THE REFERENCE'S VALUE: its operations' term is the plain score. -/
theorem value (a b : FVec Ideal S4096 .f32) (w : FVec Ideal S4096x2048 .f32) (e : FVec Ideal S2048 .f32)
    (s : FVec Ideal S4096x1 .f32) (β : FVec Ideal S1 .f32) :
    shapeCast S_ (addf (Host.dotGeneral dot_S4096_S4096x1_S1_0_0_n_1_n_n none
        (concatenate S4096 0 [⟨S2048, addf (Host.dotGeneral dot_S4096_S4096x2048_S2048_0_0_n_1_n_n none a w) e⟩,
          ⟨S2048, addf (Host.dotGeneral dot_S4096_S4096x2048_S2048_0_0_n_1_n_n none b w) e⟩]
          concatenates_S2048_S2048_S4096_d0) s) β) shapeCasts_S1_S_
      = fun _ => plain (vectors a b) (matrix w) (bias e) (weights s) (offset β) := by
  funext j
  rw [shapeCast_apply _ _ j (ix1 0) (by rw [Shape.rowMajor_val_one]; exact (Nat.lt_one_iff.1 (Shape.rowMajor S_ j).isLt).symm)]
  show Host.dotGeneral dot_S4096_S4096x1_S1_0_0_n_1_n_n none _ s (ix1 0) + β (ix1 0) = _
  rw [score_apply, sum_halves]
  simp only [joined_upper, joined_lower]
  show ∑ h, (Host.dotGeneral dot_S4096_S4096x2048_S2048_0_0_n_1_n_n none a w (ix1 h) + e (ix1 h)) * s (ix2 (half 0 h) 0)
    + ∑ h, (Host.dotGeneral dot_S4096_S4096x2048_S2048_0_0_n_1_n_n none b w (ix1 h) + e (ix1 h)) * s (ix2 (half 1 h) 0)
    + β (ix1 0) = _
  simp only [embed_apply]
  rfl

end Cert.ReferenceIdeal.Plain

end

end
-- ==== Proof.Finite.lean ====
/-
  What the precondition says: where it holds, every entry of the two vectors, of the embedding's matrix and bias, and of
  the scorer's weights is a real number.
-/
module

public import proofs.«01_k».proof.Proof.Gen.Pre_finite
public import proofs.«01_k».proof.Pre_finite
public import Idealize.ShloMosaic.PureOps.Ideal.Laws
public import Idealize.ShloMosaic.Lib.ReduceAll

@[expose] public section

noncomputable section

namespace Cert.Pre_finite

open Idealize.ShloMosaic

/-- A comparison `|x| < ∞` that came out true makes `x` a real number. -/
theorem real_of_olt (x : EReal)
    (h : FloatOps.cmpf (F := Ideal) (φ := .f32) .olt (FloatOps.hostAbsf x) (FloatOps.ofBits .f32 0x7F800000#32) = 1#1) :
    ∃ q : ℝ, x = q := by
  have top : Ideal.ofBits .f32 0x7F800000#32 = ⊤ := by simp [Ideal.ofBits, Ideal.ieee]
  have lt : max x (-x) < ⊤ := by
    change Ideal.cmp .olt (max x (-x)) (Ideal.ofBits .f32 0x7F800000#32) = 1#1 at h
    rw [top] at h
    by_contra hn
    simp [Ideal.cmp, hn] at h
  induction x with
  | bot => simp at lt
  | top => simp at lt
  | coe q => exact ⟨q, rfl⟩

/-- An array all of whose entries compare below infinity in absolute value holds real numbers only. -/
theorem real_of_all {s : Shape} {axes : List (Fin s.rank)} {u : Shape} (x : FVec Ideal s .f32) (b : FVec Ideal s .f32)
    (hb : ∀ i, b i = FloatOps.ofBits .f32 0x7F800000#32) (init : u.Idx → BitVec 1) (h : s.ReducesTo axes S_) (hu : 0 < u.numel)
    (j : S_.Idx) (e : Host.reduce IntOp.andi (cmpf .olt (Host.absf x) b) init h hu j = 1#1) (i : s.Idx) : ∃ q : ℝ, x i = q := by
  haveI : Subsingleton S_.Idx := ⟨fun a b => funext fun k => k.elim0⟩
  have h1 := Host.reduce_andi_all _ _ h hu j e i
  refine real_of_olt (x i) ?_
  rw [← hb i]
  exact h1

/-- THE PRECONDITION, READ: it holds only where the first five arguments are real throughout. -/
theorem real_of_fn (a b : FVec Ideal S4096 .f32) (w : FVec Ideal S4096x2048 .f32) (e : FVec Ideal S2048 .f32)
    (s : FVec Ideal S4096x1 .f32) (β : FVec Ideal S1 .f32) (h : fn a b w e s β = fun _ => 1#1) :
    (∀ i, ∃ q : ℝ, a i = q) ∧ (∀ i, ∃ q : ℝ, b i = q) ∧ (∀ i, ∃ q : ℝ, w i = q) ∧ (∀ i, ∃ q : ℝ, e i = q)
      ∧ ∀ i, ∃ q : ℝ, s i = q := by
  have h0 := congrFun h (fun k => k.elim0)
  unfold fn fn_part1 at h0
  dsimp only at h0
  obtain ⟨h0, hs⟩ := IntOp.andi_eq_one.1 h0
  obtain ⟨h0, he⟩ := IntOp.andi_eq_one.1 h0
  obtain ⟨h0, hw⟩ := IntOp.andi_eq_one.1 h0
  obtain ⟨ha, hb⟩ := IntOp.andi_eq_one.1 h0
  exact ⟨real_of_all a _ (fun _ => rfl) _ _ _ _ ha, real_of_all b _ (fun _ => rfl) _ _ _ _ hb,
    real_of_all w _ (fun _ => rfl) _ _ _ _ hw, real_of_all e _ (fun _ => rfl) _ _ _ _ he,
    real_of_all s _ (fun _ => rfl) _ _ _ _ hs⟩

end Cert.Pre_finite

end

end
-- ==== Proof.lean ====
/-
  The proof of `Cert.Claim`: the program, its idealization and the reference run and leave their arguments as they were,
  the idealization is the program itself, and over the extended reals the idealization and the reference give the same
  score wherever the vectors, the embedding and the scorer's weights are finite.

  The score's arithmetic is in `Proof/Score.lean`; what one grid point computes in `Proof/Body.lean`, what its windows show
  in `Proof/Blocks.lean`, what the result holds at the end in `Proof/Final.lean`; the reference's value in
  `Proof/Reference.lean`; what the precondition says in `Proof/Finite.lean`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Final
public import proofs.«01_k».proof.Proof.Reference
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem EmbedScore

/-- The reference leaves its arguments as they were; it declares no semaphore. -/
theorem reference_frame : Cert.quiescent_ReferenceIdeal := fun m ρ _ =>
  (θ_run ReferenceIdeal.defs _ _).mono (fun r h => ⟨fun c => (h c).2, sem_eq_zero_of_no_sems rfl r.2⟩) (ReferenceIdeal.Value.run m ρ)

/-- Where the precondition holds, the score added up tile by tile is the plain score. -/
theorem same_score (m : (ℓ : Loc KernelIdeal.nD KernelIdeal.τ KernelIdeal.sig) → Buf (Elt Ideal) ℓ)
    (h : Cert.Pre_KernelIdeal_finite m) (c : Dev KernelIdeal.nD) :
    KernelIdeal.Final.score m c = plain (KernelIdeal.Final.xs m c) (KernelIdeal.Final.ws m c) (KernelIdeal.Final.es m c)
      (KernelIdeal.Final.ss m c) (KernelIdeal.Final.bs m c) := by
  obtain ⟨ha, hb, hw, he, hs⟩ := Pre_finite.real_of_fn _ _ _ _ _ _ (h c)
  refine tiled_eq_plain _ _ _ _ _ (fun r k => ?_) (fun _ _ => hw _) (fun _ => he _) (fun _ _ => hs _)
  match r with
  | ⟨0, _⟩ => exact ha _
  | ⟨1, _⟩ => exact hb _

/-- THE VALUE: from memories that agree on the arguments, under the precondition, the idealized kernel and the reference
    end with one score. -/
theorem same_value : Cert.algebraic_KernelIdeal_ReferenceIdeal_pre_finite := fun m ρ m' ρ' hpre hargs =>
  ⟨fun c => (fun _ => KernelIdeal.Final.score m c : FVec Ideal KernelIdeal.S_ .f32), KernelIdeal.Final.run m ρ,
    (θ_run ReferenceIdeal.defs _ _).mono (fun _ h c => by
      obtain ⟨h0, h1, h2, h3, h4, h5⟩ := hargs c
      refine ⟨(h c).1.trans ((ReferenceIdeal.Plain.value _ _ _ _ _ _).trans (funext fun _ => ?_)), (h c).2⟩
      rw [h0, h1, h2, h3, h4, h5]
      exact (same_score m hpre c).symm) (ReferenceIdeal.Value.run m' ρ')⟩

/-- Everything the certificate claims. -/
theorem claim : Cert.Claim :=
  ⟨Kernel.Gen.facts, KernelIdeal.Gen.facts, ReferenceIdeal.Gen.facts, Pre_finite.Gen.facts,
    fun m ρ _ => Kernel.Gen.frame m ρ, fun m ρ _ => KernelIdeal.Gen.frame m ρ, fun m ρ _ => KernelIdeal.Gen.frame m ρ,
    reference_frame, fun m ρ _ => reference_frame m ρ trivial, trivial, same_value⟩

end Cert.Proof

end
